-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024x32 : Shape := ⟨3, ![64, 1024, 32]⟩
abbrev S512x32 : Shape := ⟨2, ![512, 32]⟩
abbrev S_ : Shape := ⟨0, ![]⟩

class Facts : Prop where
  bcast_S_S64x1024x32 : S_.BroadcastsInDim S64x1024x32 (![] : Fin 0 → Fin S64x1024x32.rank)
  reducesTo_S64x1024x32_S_d0_1_2 : S64x1024x32.ReducesTo [0, 1, 2] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S64x1024x32 .f32) (main_arg1 : FVec F S512x32 .f32) : IVec S_ 1 :=
  let main_v0 : FVec F S64x1024x32 .f32 := Host.absf main_arg0
  let main_cst : FVec F S_ .f32 := constant S_ .f32 0x7F800000#32
  let main_v1 : FVec F S64x1024x32 .f32 := broadcastInDim S64x1024x32 ![] bcast_S_S64x1024x32 main_cst
  let main_v2 : IVec S64x1024x32 1 := cmpf .olt main_v0 main_v1
  let main_c : IVec S_ 1 := constantI S_ 1 1#1
  let main_v3 : IVec S_ 1 := (fun x v => Host.reduce IntOp.andi x v reducesTo_S64x1024x32_S_d0_1_2 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S64x1024x32 : Shape := ⟨3, ![64, 1024, 32]⟩
abbrev S512x32 : Shape := ⟨2, ![512, 32]⟩
abbrev S_ : Shape := ⟨0, ![]⟩
abbrev S512 : Shape := ⟨1, ![512]⟩
abbrev S512x1 : Shape := ⟨2, ![512, 1]⟩
abbrev S64x32x1024 : Shape := ⟨3, ![64, 32, 1024]⟩
abbrev S64x1024 : Shape := ⟨2, ![64, 1024]⟩
abbrev S8x32x1024 : Shape := ⟨3, ![8, 32, 1024]⟩
abbrev S8x1024 : Shape := ⟨2, ![8, 1024]⟩
abbrev S1x32x1024 : Shape := ⟨3, ![1, 32, 1024]⟩
abbrev S32x1024 : Shape := ⟨2, ![32, 1024]⟩
abbrev S1024 : Shape := ⟨1, ![1024]⟩
abbrev S1x1024 : Shape := ⟨2, ![1, 1024]⟩
abbrev S512x1024 : Shape := ⟨2, ![512, 1024]⟩
abbrev S32x16x1024 : Shape := ⟨3, ![32, 16, 1024]⟩
abbrev S32x8x1024 : Shape := ⟨3, ![32, 8, 1024]⟩
abbrev S256x1024 : Shape := ⟨2, ![256, 1024]⟩
abbrev S16x16x1024 : Shape := ⟨3, ![16, 16, 1024]⟩
abbrev S16x8x1024 : Shape := ⟨3, ![16, 8, 1024]⟩
abbrev S128x1024 : Shape := ⟨2, ![128, 1024]⟩
abbrev S8x16x1024 : Shape := ⟨3, ![8, 16, 1024]⟩
abbrev S8x8x1024 : Shape := ⟨3, ![8, 8, 1024]⟩
abbrev S4x16x1024 : Shape := ⟨3, ![4, 16, 1024]⟩
abbrev S4x8x1024 : Shape := ⟨3, ![4, 8, 1024]⟩
abbrev S2x16x1024 : Shape := ⟨3, ![2, 16, 1024]⟩
abbrev S2x8x1024 : Shape := ⟨3, ![2, 8, 1024]⟩
abbrev S16x1024 : Shape := ⟨2, ![16, 1024]⟩
abbrev S1x16x1024 : Shape := ⟨3, ![1, 16, 1024]⟩
abbrev S1x8x1024 : Shape := ⟨3, ![1, 8, 1024]⟩

abbrev nBuf : Space → Nat
  | .hbm => 13
  | .vmem => 7
  | .smem => 0
  | _ => 0

abbrev bufTy : (tb : Table) → Fin (tcTables nBuf tb) → BufTy
  | .hbm, ⟨0, _⟩ => ⟨S64x1024x32, .f32⟩
  | .hbm, ⟨1, _⟩ => ⟨S512x32, .f32⟩
  | .hbm, ⟨2, _⟩ => ⟨S512x32, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x32, .f32⟩
  | .hbm, ⟨8, _⟩ => ⟨S512x32, .f32⟩
  | .hbm, ⟨9, _⟩ => ⟨S512, .f32⟩
  | .hbm, ⟨10, _⟩ => ⟨S512x1, .f32⟩
  | .hbm, ⟨11, _⟩ => ⟨S64x32x1024, .f32⟩
  | .hbm, ⟨12, _⟩ => ⟨S64x1024, .i32⟩
  | .local _ .vmem, ⟨0, _⟩ => ⟨S512x32, .f32⟩
  | .local _ .vmem, ⟨1, _⟩ => ⟨S8x32x1024, .f32⟩
  | .local _ .vmem, ⟨2, _⟩ => ⟨S8x32x1024, .f32⟩
  | .local _ .vmem, ⟨3, _⟩ => ⟨S512x1, .f32⟩
  | .local _ .vmem, ⟨4, _⟩ => ⟨S512x1, .f32⟩
  | .local _ .vmem, ⟨5, _⟩ => ⟨S8x1024, .i32⟩
  | .local _ .vmem, ⟨6, _⟩ => ⟨S8x1024, .i32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x1024x32 : Shape := ⟨3, ![64, 1024, 32]⟩
abbrev S512x32 : Shape := ⟨2, ![512, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S32x512 : Shape := ⟨2, ![32, 512]⟩
abbrev S65536x512 : Shape := ⟨2, ![65536, 512]⟩
abbrev S64x1024 : Shape := ⟨2, ![64, 1024]⟩

abbrev nBuf : Space → Nat
  | .hbm => 30
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S512x32, .f32⟩
  | .hbm, ⟨2, _⟩ => ⟨S65536x32, .f32⟩
  | .hbm, ⟨3, _⟩ => ⟨S65536x32, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S32x512, .f32⟩
  | .hbm, ⟨12, _⟩ => ⟨S65536x512, .f32⟩
  | .hbm, ⟨13, _⟩ => ⟨S_, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .i32⟩
  | .hbm, ⟨25, _⟩ => ⟨S_, .f32⟩
  | .hbm, ⟨26, _⟩ => ⟨S_, .i32⟩
  | .hbm, ⟨27, _⟩ => ⟨S65536, .f32⟩
  | .hbm, ⟨28, _⟩ => ⟨S65536, .i32⟩
  | .hbm, ⟨29, _⟩ => ⟨S64x1024, .i32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.Tournament.lean ====
/-
  The first minimum of a family, and the two ways the kernel finds it: rounds that halve the number of candidates,
  and a last pass over the eight candidates that remain. Nothing here names the program.
-/
module

public import Idealize.ShloMosaic.PureOps
public import Idealize.ShloMosaic.Lib.Pointwise
public import Idealize.ShloMosaic.Lib.Pipeline.Value

@[expose] public section

noncomputable section

namespace Cert.Nearest

open Idealize.ShloMosaic

/-! ## The first minimum -/

/-- `k` is the first of the indices in `S` at which `D` is least. -/
def First (D : ℕ → EReal) (S : Set ℕ) (k : ℕ) : Prop :=
  k ∈ S ∧ ∀ i ∈ S, D k < D i ∨ (D k = D i ∧ k ≤ i)

/-- There is at most one first minimum. -/
theorem First.unique {D : ℕ → EReal} {S : Set ℕ} {k l : ℕ} (hk : First D S k) (hl : First D S l) : k = l := by
  rcases hk.2 l hl.1 with h | ⟨e, h⟩
  · rcases hl.2 k hk.1 with h' | ⟨e', _⟩
    · exact absurd h (lt_asymm h')
    · exact absurd h (by rw [e']; exact lt_irrefl _)
  · rcases hl.2 k hk.1 with h' | ⟨_, h'⟩
    · exact absurd h' (by rw [e]; exact lt_irrefl _)
    · exact le_antisymm h h'

/-- Families that agree on `S` have the same first minimum on `S`. -/
theorem First.congr {D D' : ℕ → EReal} {S : Set ℕ} {k : ℕ} (h : First D S k) (e : ∀ i ∈ S, D i = D' i) : First D' S k :=
  ⟨h.1, fun i hi => by rw [← e k h.1, ← e i hi]; exact h.2 i hi⟩

/-- The first minimum of two sets, every index of the one at most every index of the other: the later set's
    winner is taken only when it is strictly less. -/
theorem First.merge {D : ℕ → EReal} {S T U : Set ℕ} {a b : ℕ} (ha : First D S a) (hb : First D T b)
    (hST : ∀ i ∈ S, ∀ j ∈ T, i ≤ j) (hU : ∀ i, i ∈ U ↔ i ∈ S ∨ i ∈ T) : First D U (if D b < D a then b else a) := by
  split_ifs with h
  · refine ⟨(hU _).mpr (Or.inr hb.1), fun i hi => ?_⟩
    rcases (hU _).mp hi with hi | hi
    · rcases ha.2 i hi with h' | ⟨e, _⟩
      · exact Or.inl (h.trans h')
      · exact Or.inl (e ▸ h)
    · exact hb.2 i hi
  · have h := not_lt.mp h
    refine ⟨(hU _).mpr (Or.inl ha.1), fun i hi => ?_⟩
    rcases (hU _).mp hi with hi | hi
    · exact ha.2 i hi
    · rcases hb.2 i hi with h' | ⟨e, _⟩
      · exact Or.inl (h.trans_lt h')
      · rcases h.lt_or_eq with h' | h'
        · exact Or.inl (e ▸ h')
        · exact Or.inr ⟨h'.trans e, hST _ ha.1 _ hi⟩

/-! ## One round -/

/-- The indices a candidate in row `r` stands for once a row's candidate has been chosen among `span` rows in a row:
    those of `r`'s span of rows which have `r`'s position among the eight sublanes. -/
def Stride (span r : ℕ) : Set ℕ := {i | i % 8 = r % 8 ∧ i / span = r / 8}

/-- A candidate's word names an index, the candidate's value is the family's there, and the index is the first minimum
    of those the row stands for. -/
def Holds {n : ℕ} (D : Fin 1024 → ℕ → EReal) (span : ℕ) (v : FVec Ideal ⟨2, ![n, 1024]⟩ .f32)
    (w : IVec ⟨2, ![n, 1024]⟩ 32) : Prop :=
  ∀ (r : Fin n) (c : Fin 1024), v (ix2 r c) = D c (w (ix2 r c)).toNat ∧ First (D c) (Stride span r) (w (ix2 r c)).toNat

section Round

variable {n g n' : ℕ} (hc : (⟨2, ![n, 1024]⟩ : Shape).ShapeCasts ⟨3, ![g, 16, 1024]⟩)
  (h0 : (⟨3, ![g, 16, 1024]⟩ : Shape).Slices ![0, 0, 0] ⟨3, ![g, 8, 1024]⟩)
  (h8 : (⟨3, ![g, 16, 1024]⟩ : Shape).Slices ![0, 8, 0] ⟨3, ![g, 8, 1024]⟩)
  (hc' : (⟨3, ![g, 8, 1024]⟩ : Shape).ShapeCasts ⟨2, ![n', 1024]⟩)

/-- The upper eight rows of each group of sixteen. -/
def upper {α : Type} (x : (⟨2, ![n, 1024]⟩ : Shape).Idx → α) : (⟨3, ![g, 8, 1024]⟩ : Shape).Idx → α :=
  extractStridedSlice ⟨3, ![g, 8, 1024]⟩ ![0, 0, 0] (shapeCast ⟨3, ![g, 16, 1024]⟩ x hc) h0

/-- The lower eight rows of each group of sixteen. -/
def lower {α : Type} (x : (⟨2, ![n, 1024]⟩ : Shape).Idx → α) : (⟨3, ![g, 8, 1024]⟩ : Shape).Idx → α :=
  extractStridedSlice ⟨3, ![g, 8, 1024]⟩ ![0, 8, 0] (shapeCast ⟨3, ![g, 16, 1024]⟩ x hc) h8

/-- The values after a round: the lesser of the two rows. -/
def roundV (v : FVec Ideal ⟨2, ![n, 1024]⟩ .f32) : FVec Ideal ⟨2, ![n', 1024]⟩ .f32 :=
  shapeCast ⟨2, ![n', 1024]⟩ (minimumf (upper hc h0 v) (lower hc h8 v)) hc'

/-- The indices after a round: the lower row's where its value is strictly less, the upper row's otherwise. -/
def roundI (v : FVec Ideal ⟨2, ![n, 1024]⟩ .f32) (w : IVec ⟨2, ![n, 1024]⟩ 32) : IVec ⟨2, ![n', 1024]⟩ 32 :=
  shapeCast ⟨2, ![n', 1024]⟩ (select (cmpf .olt (lower hc h8 v) (upper hc h0 v)) (lower hc h8 w) (upper hc h0 w)) hc'

/-- An array cut into groups of sixteen rows, read at row `s` of group `q`. -/
theorem split_apply {α : Type} (x : (⟨2, ![n, 1024]⟩ : Shape).Idx → α) (q : Fin g) (s : Fin 16) (c : Fin 1024) (r : Fin n)
    (hr : r.val = 16 * q.val + s.val) : shapeCast ⟨3, ![g, 16, 1024]⟩ x hc (ix3 q s c) = x (ix2 r c) := by
  refine shapeCast_apply x hc _ _ ?_
  rw [rowMajor_val2 _ 1024 rfl, rowMajor_val3 _ (16 * 1024) 1024 rfl rfl]
  show r.val * 1024 + c.val = q.val * (16 * 1024) + s.val * 1024 + c.val
  omega

/-- Groups of eight rows laid out one after another, read at row `8 * q + s`. -/
theorem join_apply {α : Type} (x : (⟨3, ![g, 8, 1024]⟩ : Shape).Idx → α) (q : Fin g) (s : Fin 8) (c : Fin 1024) (r : Fin n')
    (hr : r.val = 8 * q.val + s.val) : shapeCast ⟨2, ![n', 1024]⟩ x hc' (ix2 r c) = x (ix3 q s c) := by
  refine shapeCast_apply x hc' _ _ ?_
  rw [rowMajor_val2 _ 1024 rfl, rowMajor_val3 _ (8 * 1024) 1024 rfl rfl]
  show q.val * (8 * 1024) + s.val * 1024 + c.val = r.val * 1024 + c.val
  omega

/-- Row `s` of group `q`'s upper half is row `16 * q + s`. -/
theorem upper_apply {α : Type} (x : (⟨2, ![n, 1024]⟩ : Shape).Idx → α) (q : Fin g) (s : Fin 8) (c : Fin 1024) (r : Fin n)
    (hr : r.val = 16 * q.val + s.val) : upper hc h0 x (ix3 q s c) = x (ix2 r c) := by
  unfold upper
  rw [extractStridedSlice_apply _ _ h0 _ (ix3 q ⟨s.val, by omega⟩ c) (fun a => by fin_cases a <;> simp [ix3])]
  exact split_apply hc x q _ c r hr

/-- Row `s` of group `q`'s lower half is row `16 * q + 8 + s`. -/
theorem lower_apply {α : Type} (x : (⟨2, ![n, 1024]⟩ : Shape).Idx → α) (q : Fin g) (s : Fin 8) (c : Fin 1024) (r : Fin n)
    (hr : r.val = 16 * q.val + 8 + s.val) : lower hc h8 x (ix3 q s c) = x (ix2 r c) := by
  unfold lower
  rw [extractStridedSlice_apply _ _ h8 _ (ix3 q ⟨8 + s.val, by omega⟩ c) (fun a => by fin_cases a <;> simp [ix3])]
  exact split_apply hc x q _ c r (by show _ = 16 * q.val + (8 + s.val); omega)

/-- A comparison for "less" followed by a choice is an `if` on "less". -/
theorem select_olt {α : Type} (a b : EReal) (x y : α) :
    Scalar.select (FloatOps.cmpf (F := Ideal) (φ := .f32) .olt a b) x y = if a < b then x else y := by
  by_cases h : a < b
  · simp [Ideal.cmpf_def, Ideal.cmp, h, Scalar.select]
  · simp [Ideal.cmpf_def, Ideal.cmp, h, Scalar.select]

/-- A round keeps the candidates right, each now standing for twice as many rows. -/
theorem Holds.round {D : Fin 1024 → ℕ → EReal} {span : ℕ} (hn : n = 16 * g) (hn' : n' = 8 * g) (hs : 0 < span)
    {v : FVec Ideal ⟨2, ![n, 1024]⟩ .f32} {w : IVec ⟨2, ![n, 1024]⟩ 32} (h : Holds D span v w) :
    Holds D (2 * span) (roundV hc h0 h8 hc' v) (roundI hc h0 h8 hc' v w) := by
  intro r c
  have hr : r.val < 8 * g := hn' ▸ r.isLt
  obtain ⟨q, hq⟩ : ∃ q : Fin g, q.val = r.val / 8 := ⟨⟨r.val / 8, by omega⟩, rfl⟩
  obtain ⟨s, hsv⟩ : ∃ s : Fin 8, s.val = r.val % 8 := ⟨⟨r.val % 8, by omega⟩, rfl⟩
  obtain ⟨a, ha⟩ : ∃ a : Fin n, a.val = 16 * q.val + s.val := ⟨⟨16 * q.val + s.val, by omega⟩, rfl⟩
  obtain ⟨b, hb⟩ : ∃ b : Fin n, b.val = 16 * q.val + 8 + s.val := ⟨⟨16 * q.val + 8 + s.val, by omega⟩, rfl⟩
  have hrq : r.val = 8 * q.val + s.val := by omega
  have ev : roundV hc h0 h8 hc' v (ix2 r c) = min (v (ix2 a c)) (v (ix2 b c)) := by
    unfold roundV
    rw [join_apply hc' _ q s c r hrq]
    show min (upper hc h0 v (ix3 q s c)) (lower hc h8 v (ix3 q s c)) = _
    rw [upper_apply hc h0 v q s c a ha, lower_apply hc h8 v q s c b hb]
  have ew : roundI hc h0 h8 hc' v w (ix2 r c) = if v (ix2 b c) < v (ix2 a c) then w (ix2 b c) else w (ix2 a c) := by
    unfold roundI
    rw [join_apply hc' _ q s c r hrq]
    show Scalar.select (FloatOps.cmpf (F := Ideal) (φ := .f32) .olt (lower hc h8 v (ix3 q s c)) (upper hc h0 v (ix3 q s c)))
      (lower hc h8 w (ix3 q s c)) (upper hc h0 w (ix3 q s c)) = _
    rw [upper_apply hc h0 v q s c a ha, lower_apply hc h8 v q s c b hb, upper_apply hc h0 w q s c a ha,
      lower_apply hc h8 w q s c b hb, select_olt]
  obtain ⟨va, fa⟩ := h a c
  obtain ⟨vb, fb⟩ := h b c
  have key := fa.merge fb (U := Stride (2 * span) r)
    (fun i hi j hj => by
      have hi2 : i / span = a.val / 8 := hi.2
      have hj2 : j / span = b.val / 8 := hj.2
      have : i / span < j / span := by omega
      exact le_of_lt (Nat.lt_of_div_lt_div this))
    (fun i => by
      have hdiv : i / (2 * span) = i / span / 2 := by rw [Nat.mul_comm, Nat.div_div_eq_div_mul]
      show (i % 8 = r.val % 8 ∧ i / (2 * span) = r.val / 8)
        ↔ (i % 8 = a.val % 8 ∧ i / span = a.val / 8) ∨ (i % 8 = b.val % 8 ∧ i / span = b.val / 8)
      rw [hdiv]
      omega)
  rw [ev, ew, va, vb]
  split_ifs with hlt
  · rw [if_pos hlt] at key
    exact ⟨by rw [vb.symm.trans vb]; exact min_eq_right hlt.le, key⟩
  · rw [if_neg hlt] at key
    exact ⟨min_eq_left (not_lt.mp hlt), key⟩

end Round

/-! ## The last pass -/

/-- The least of a finite family of values is at most each and is one of them. -/
theorem fold_min_spec {n : ℕ} (f : Fin (n + 1) → EReal) :
    (∀ i, Finset.univ.fold min ⊤ f ≤ f i) ∧ ∃ i, f i = Finset.univ.fold min ⊤ f := by
  have e : Finset.univ.fold min ⊤ f = Finset.univ.inf f := rfl
  rw [e]
  refine ⟨fun i => Finset.inf_le (Finset.mem_univ i), ?_⟩
  obtain ⟨i, _, hi⟩ := Finset.exists_mem_eq_inf Finset.univ Finset.univ_nonempty f
  exact ⟨i, hi.symm⟩

/-- The signed minimum of a finite family of words from a starting word is at most each, and is the start or one of them. -/
theorem fold_minsi_spec {ι : Type*} (S : Finset ι) (b : BitVec 32) (f : ι → BitVec 32) :
    (∀ i ∈ S, (S.fold IntOp.minsi b f).toInt ≤ (f i).toInt) ∧ (S.fold IntOp.minsi b f = b ∨ ∃ i ∈ S, S.fold IntOp.minsi b f = f i) := by
  classical
  induction S using Finset.induction_on with
  | empty => exact ⟨fun i hi => absurd hi (Finset.notMem_empty i), Or.inl rfl⟩
  | insert a S ha ih =>
    have e : ∀ x y : BitVec 32, IntOp.minsi x y = if x.slt y = true then x else y := fun _ _ => rfl
    rw [Finset.fold_insert ha, e]
    by_cases h : (f a).slt (S.fold IntOp.minsi b f) = true
    · rw [if_pos h]
      have h' := BitVec.slt_iff_toInt_lt.mp h
      refine ⟨fun i hi => ?_, Or.inr ⟨a, Finset.mem_insert_self _ _, rfl⟩⟩
      rcases Finset.mem_insert.mp hi with rfl | hi
      · exact le_refl _
      · exact h'.le.trans (ih.1 i hi)
    · rw [if_neg h]
      have h' : (S.fold IntOp.minsi b f).toInt ≤ (f a).toInt := not_lt.mp fun hh => h (BitVec.slt_iff_toInt_lt.mpr hh)
      refine ⟨fun i hi => ?_, ih.2.imp id fun ⟨i, hi, e⟩ => ⟨i, Finset.mem_insert_of_mem hi, e⟩⟩
      rcases Finset.mem_insert.mp hi with rfl | hi
      · exact h'
      · exact ih.1 i hi

/-- The pattern `0x7F800000` is infinity. -/
theorem ofBits_inf : Ideal.ofBits .f32 0x7F800000#32 = ⊤ := by simp [Ideal.ofBits, Ideal.ieee]

/-- The pattern `0x40000000` is two. -/
theorem ofBits_two : Ideal.ofBits .f32 0x40000000#32 = 2 := by
  rw [show (2 : EReal) = ((2 : ℝ) : EReal) by norm_cast]
  simp [Ideal.ofBits, Ideal.ieee, -EReal.coe_mul]; norm_num

/-- A word below 1024 reads the same signed and unsigned. -/
theorem toInt_of_small {w : BitVec 32} (h : w.toNat < 1024) : w.toInt = w.toNat := by
  rw [BitVec.toInt_eq_toNat_of_lt (by omega)]

/-- Eight candidates, one for each position among the sublanes: the least word among those of the least value
    is the first minimum over all 512 indices. -/
theorem First.last {D : ℕ → EReal} (v : Fin 8 → EReal) (w : Fin 8 → BitVec 32)
    (h : ∀ r : Fin 8, v r = D (w r).toNat ∧ First D (Stride 512 r) (w r).toNat) :
    First D {i | i < 512} ((Finset.univ : Finset (Fin 8)).fold IntOp.minsi 2147483647#32
      (fun r => if v r = (Finset.univ : Finset (Fin 8)).fold min ⊤ v then w r else 512#32)).toNat := by
  obtain ⟨hle, r0, hr0⟩ := fold_min_spec v
  set m := (Finset.univ : Finset (Fin 8)).fold min ⊤ v with hm
  obtain ⟨hk, hor⟩ := fold_minsi_spec (Finset.univ : Finset (Fin 8)) 2147483647#32 (fun r => if v r = m then w r else 512#32)
  set k := (Finset.univ : Finset (Fin 8)).fold IntOp.minsi 2147483647#32 (fun r => if v r = m then w r else 512#32) with hkk
  have small : ∀ r, (w r).toNat < 512 := fun r => by
    have h2 : (w r).toNat / 512 = r.val / 8 := (h r).2.1.2
    have := r.isLt
    omega
  have least : ∀ r, v r = m → k.toInt ≤ (w r).toNat := fun r hr => by
    have := hk r (Finset.mem_univ r)
    rw [if_pos hr, toInt_of_small ((small r).trans (by decide))] at this
    exact this
  have ub : k.toInt < 512 := (least r0 hr0).trans_lt (by exact_mod_cast small r0)
  obtain ⟨r1, hv1, e1⟩ : ∃ r, v r = m ∧ k = w r := by
    rcases hor with e | ⟨r, _, e⟩
    · rw [e] at ub; exact absurd ub (by decide)
    · by_cases hr : v r = m
      · exact ⟨r, hr, by rw [if_pos hr] at e; exact e⟩
      · rw [if_neg hr] at e; rw [e] at ub; exact absurd ub (by decide)
  have least' : ∀ r, v r = m → k.toNat ≤ (w r).toNat := fun r hr => by
    have := least r hr
    rw [e1, toInt_of_small ((small r1).trans (by decide)), ← e1] at this
    exact_mod_cast this
  have hDk : D k.toNat = m := by rw [e1, ← (h r1).1, hv1]
  refine ⟨by show k.toNat < 512; rw [e1]; exact small r1, fun i hi => ?_⟩
  have hi : i < 512 := hi
  have hmem : i ∈ Stride 512 (⟨i % 8, by omega⟩ : Fin 8).val := ⟨by show i % 8 = i % 8 % 8; omega, by show i / 512 = i % 8 / 8; omega⟩
  generalize (⟨i % 8, by omega⟩ : Fin 8) = r at hmem
  obtain ⟨hv, hf⟩ := h r
  rw [hDk]
  rcases (hle r).lt_or_eq with hlt | heq
  · rw [hv] at hlt
    rcases hf.2 i hmem with h' | ⟨e, _⟩
    · exact Or.inl (hlt.trans h')
    · exact Or.inl (e ▸ hlt)
  · rcases hf.2 i hmem with h' | ⟨e, h'⟩
    · exact Or.inl (by rw [heq, hv]; exact h')
    · exact Or.inr ⟨by rw [heq, hv]; exact e, (least' r heq.symm).trans h'⟩

end Cert.Nearest

end
-- ==== Proof.Row.lean ====
/- One batch of the kernel: the distances of 1024 tokens to the 512 codewords, the six rounds of the tournament and the last pass
   over its eight winners. -/
module

public import proofs.«01_k».proof.Proof.Gen.KernelIdeal.Frame
public import proofs.«01_k».proof.Proof.Tournament
public import Idealize.ShloMosaic.Lib.Pointwise
public import Idealize.ShloMosaic.Lib.Pipeline.Value

@[expose] public section

noncomputable section

namespace Cert.KernelIdeal.Row

open Cert.KernelIdeal Cert.KernelIdeal.Gen Cert.Nearest Idealize.ShloMosaic Idealize.ShloMosaic.TcCoe

/-! ## The batch as a few named values -/

/-- The squared distances, expanded: tokens a column, codewords a row. -/
def dist2 (v0 : FVec Ideal S512x32 .f32) (v2 : FVec Ideal S512x1 .f32) (v4 : FVec Ideal S1x32x1024 .f32) : FVec Ideal S512x1024 .f32 :=
  addf
    (subf
      (broadcastTo S512x1024
        (shapeCast S1x1024
          (multiReduction .add [0] S1024
            (mulf (shapeCast S32x1024 v4 shapeCasts_S1x32x1024_S32x1024) (shapeCast S32x1024 v4 shapeCasts_S1x32x1024_S32x1024))
            0x00000000#32 reduces_S32x1024_S1024 (.inl rfl) rfl)
          shapeCasts_S1024_S1x1024)
        broadcasts_S1x1024_S512x1024)
      (matmul dot_S512x32_S32x1024_S512x1024_1_0_0_1_n_n none (shapeCast S512x32 v0 shapeCasts_S512x32_S512x32)
        (shapeCast S32x1024 v4 shapeCasts_S1x32x1024_S32x1024) (constant S512x1024 .f32 0x00000000#32)))
    (broadcastTo S512x1024 (shapeCast S512x1 v2 shapeCasts_S512x1_S512x1) broadcasts_S512x1_S512x1024)

/-- The distances. -/
def dist (v0 : FVec Ideal S512x32 .f32) (v2 : FVec Ideal S512x1 .f32) (v4 : FVec Ideal S1x32x1024 .f32) : FVec Ideal S512x1024 .f32 :=
  mulf (dist2 v0 v2 v4) (rsqrt (dist2 v0 v2 v4))

/-- The row numbers. -/
def idx0 : IVec S512x1024 32 := iota .tc S512x1024 32 [0] iota_S512x1024_d0_w32

section Rounds

variable (d : FVec Ideal S512x1024 .f32)

/-- The values after one round. -/
def val1 : FVec Ideal S256x1024 .f32 :=
  roundV shapeCasts_S512x1024_S32x16x1024 slices_S32x16x1024_o0_0_0_S32x8x1024 slices_S32x16x1024_o0_8_0_S32x8x1024
    shapeCasts_S32x8x1024_S256x1024 d
/-- The indices after one round. -/
def idx1 : IVec S256x1024 32 :=
  roundI shapeCasts_S512x1024_S32x16x1024 slices_S32x16x1024_o0_0_0_S32x8x1024 slices_S32x16x1024_o0_8_0_S32x8x1024
    shapeCasts_S32x8x1024_S256x1024 d idx0
/-- The values after two rounds. -/
def val2 : FVec Ideal S128x1024 .f32 :=
  roundV shapeCasts_S256x1024_S16x16x1024 slices_S16x16x1024_o0_0_0_S16x8x1024 slices_S16x16x1024_o0_8_0_S16x8x1024
    shapeCasts_S16x8x1024_S128x1024 (val1 d)
/-- The indices after two rounds. -/
def idx2 : IVec S128x1024 32 :=
  roundI shapeCasts_S256x1024_S16x16x1024 slices_S16x16x1024_o0_0_0_S16x8x1024 slices_S16x16x1024_o0_8_0_S16x8x1024
    shapeCasts_S16x8x1024_S128x1024 (val1 d) (idx1 d)
/-- The values after three rounds. -/
def val3 : FVec Ideal S64x1024 .f32 :=
  roundV shapeCasts_S128x1024_S8x16x1024 slices_S8x16x1024_o0_0_0_S8x8x1024 slices_S8x16x1024_o0_8_0_S8x8x1024
    shapeCasts_S8x8x1024_S64x1024 (val2 d)
/-- The indices after three rounds. -/
def idx3 : IVec S64x1024 32 :=
  roundI shapeCasts_S128x1024_S8x16x1024 slices_S8x16x1024_o0_0_0_S8x8x1024 slices_S8x16x1024_o0_8_0_S8x8x1024
    shapeCasts_S8x8x1024_S64x1024 (val2 d) (idx2 d)
/-- The values after four rounds. -/
def val4 : FVec Ideal S32x1024 .f32 :=
  roundV shapeCasts_S64x1024_S4x16x1024 slices_S4x16x1024_o0_0_0_S4x8x1024 slices_S4x16x1024_o0_8_0_S4x8x1024
    shapeCasts_S4x8x1024_S32x1024 (val3 d)
/-- The indices after four rounds. -/
def idx4 : IVec S32x1024 32 :=
  roundI shapeCasts_S64x1024_S4x16x1024 slices_S4x16x1024_o0_0_0_S4x8x1024 slices_S4x16x1024_o0_8_0_S4x8x1024
    shapeCasts_S4x8x1024_S32x1024 (val3 d) (idx3 d)
/-- The values after five rounds. -/
def val5 : FVec Ideal S16x1024 .f32 :=
  roundV shapeCasts_S32x1024_S2x16x1024 slices_S2x16x1024_o0_0_0_S2x8x1024 slices_S2x16x1024_o0_8_0_S2x8x1024
    shapeCasts_S2x8x1024_S16x1024 (val4 d)
/-- The indices after five rounds. -/
def idx5 : IVec S16x1024 32 :=
  roundI shapeCasts_S32x1024_S2x16x1024 slices_S2x16x1024_o0_0_0_S2x8x1024 slices_S2x16x1024_o0_8_0_S2x8x1024
    shapeCasts_S2x8x1024_S16x1024 (val4 d) (idx4 d)
/-- The values after six rounds: eight candidates a token. -/
def val6 : FVec Ideal S8x1024 .f32 :=
  roundV shapeCasts_S16x1024_S1x16x1024 slices_S1x16x1024_o0_0_0_S1x8x1024 slices_S1x16x1024_o0_8_0_S1x8x1024
    shapeCasts_S1x8x1024_S8x1024 (val5 d)
/-- The indices after six rounds. -/
def idx6 : IVec S8x1024 32 :=
  roundI shapeCasts_S16x1024_S1x16x1024 slices_S1x16x1024_o0_0_0_S1x8x1024 slices_S1x16x1024_o0_8_0_S1x8x1024
    shapeCasts_S1x8x1024_S8x1024 (val5 d) (idx5 d)

end Rounds

/-- The last pass: the least index among the candidates of the least value. -/
def last (v : FVec Ideal S8x1024 .f32) (w : IVec S8x1024 32) : IVec S1x1024 32 :=
  shapeCast S1x1024
    (multiReductionI .minsi [0] S1024
      (select
        (cmpf .oeq v
          (broadcastTo S8x1024
            (shapeCast S1x1024 (multiReduction .minimumf [0] S1024 v 0x7F800000#32 reduces_S8x1024_S1024 (.inl rfl) rfl)
              shapeCasts_S1024_S1x1024)
            broadcasts_S1x1024_S8x1024))
        w (broadcast S8x1024 512#32))
      2147483647#32 reduces_S8x1024_S1024 rfl)
    shapeCasts_S1024_S1x1024

/-- The batch's indices. -/
def row (v0 : FVec Ideal S512x32 .f32) (v2 : FVec Ideal S512x1 .f32) (v4 : FVec Ideal S1x32x1024 .f32) : IVec S1x1024 32 :=
  last (val6 (dist v0 v2 v4)) (idx6 (dist v0 v2 v4))

/-! ## Its value -/

/-- The distance of a token, its coordinates `t`, and codeword `i`, as the kernel works it out; zero past the last codeword. -/
def near (v0 : FVec Ideal S512x32 .f32) (v2 : FVec Ideal S512x1 .f32) (t : Fin 32 → EReal) (i : ℕ) : EReal :=
  if h : i < 512 then
    ((∑ e, t e * t e) - (∑ e, v0 (ix2 ⟨i, h⟩ e) * t e) + v2 (ix2 ⟨i, h⟩ 0))
      * Ideal.rsqrt ((∑ e, t e * t e) - (∑ e, v0 (ix2 ⟨i, h⟩ e) * t e) + v2 (ix2 ⟨i, h⟩ 0))
  else 0

/-- The expansion of the squared distance, entry by entry. -/
theorem dist2_apply (v0 : FVec Ideal S512x32 .f32) (v2 : FVec Ideal S512x1 .f32) (v4 : FVec Ideal S1x32x1024 .f32)
    (i : Fin 512) (c : Fin 1024) :
    dist2 v0 v2 v4 (ix2 i c)
      = (∑ e : Fin 32, v4 (ix3 0 e c) * v4 (ix3 0 e c)) - (∑ e : Fin 32, v0 (ix2 i e) * v4 (ix3 0 e c)) + v2 (ix2 i 0) := by
  unfold dist2
  simp only [pointwise, zero_add]
  rfl

/-- The last pass of a column is a minimum over the indices of the least candidates. -/
theorem last_apply (v : FVec Ideal S8x1024 .f32) (w : IVec S8x1024 32) (c : Fin 1024) :
    last v w (ix2 0 c) = (Finset.univ : Finset (Fin 8)).fold IntOp.minsi 2147483647#32
      (fun r => if v (ix2 r c) = (Finset.univ : Finset (Fin 8)).fold min ⊤ (fun r => v (ix2 r c)) then w (ix2 r c) else 512#32) := by
  unfold last
  simp only [pointwise, ofBits_inf]
  rfl

/-- Before the first round every row stands for itself. -/
theorem start (D : Fin 1024 → ℕ → EReal) (d : FVec Ideal S512x1024 .f32) (hD : ∀ i c, d (ix2 i c) = D c i.val) :
    Holds D 8 d idx0 := by
  intro r c
  have e : (idx0 (ix2 r c)).toNat = r.val := by
    have h : idx0 (ix2 r c) = BitVec.ofNat 32 (0 * 512 + r.val) := rfl
    rw [h, BitVec.toNat_ofNat]
    have := r.isLt
    omega
  rw [e, hD]
  refine ⟨rfl, ⟨rfl, rfl⟩, fun i hi => ?_⟩
  obtain rfl : i = r.val := by
    have := hi.1; have := hi.2; omega
  exact Or.inr ⟨rfl, le_rfl⟩

/-- The batch's index for a token is the first minimum of the token's distances. -/
theorem row_first (v0 : FVec Ideal S512x32 .f32) (v2 : FVec Ideal S512x1 .f32) (v4 : FVec Ideal S1x32x1024 .f32) (c : Fin 1024) :
    First (near v0 v2 (fun e => v4 (ix3 0 e c))) {i | i < 512} (row v0 v2 v4 (ix2 0 c)).toNat := by
  have h0 : Holds (fun c => near v0 v2 (fun e => v4 (ix3 0 e c))) 8 (dist v0 v2 v4) idx0 := start _ _ fun i c => by
    have e : dist v0 v2 v4 (ix2 i c) = dist2 v0 v2 v4 (ix2 i c) * Ideal.rsqrt (dist2 v0 v2 v4 (ix2 i c)) := rfl
    rw [e, dist2_apply]
    unfold near
    rw [dif_pos i.isLt]
  have h6 := (((((h0.round (n' := 256) shapeCasts_S512x1024_S32x16x1024 slices_S32x16x1024_o0_0_0_S32x8x1024
      slices_S32x16x1024_o0_8_0_S32x8x1024 shapeCasts_S32x8x1024_S256x1024 rfl rfl (by decide)).round (n' := 128)
    shapeCasts_S256x1024_S16x16x1024 slices_S16x16x1024_o0_0_0_S16x8x1024 slices_S16x16x1024_o0_8_0_S16x8x1024
      shapeCasts_S16x8x1024_S128x1024 rfl rfl (by decide)).round (n' := 64)
    shapeCasts_S128x1024_S8x16x1024 slices_S8x16x1024_o0_0_0_S8x8x1024 slices_S8x16x1024_o0_8_0_S8x8x1024
      shapeCasts_S8x8x1024_S64x1024 rfl rfl (by decide)).round (n' := 32)
    shapeCasts_S64x1024_S4x16x1024 slices_S4x16x1024_o0_0_0_S4x8x1024 slices_S4x16x1024_o0_8_0_S4x8x1024
      shapeCasts_S4x8x1024_S32x1024 rfl rfl (by decide)).round (n' := 16)
    shapeCasts_S32x1024_S2x16x1024 slices_S2x16x1024_o0_0_0_S2x8x1024 slices_S2x16x1024_o0_8_0_S2x8x1024
      shapeCasts_S2x8x1024_S16x1024 rfl rfl (by decide)).round (n' := 8)
    shapeCasts_S16x1024_S1x16x1024 slices_S1x16x1024_o0_0_0_S1x8x1024 slices_S1x16x1024_o0_8_0_S1x8x1024
      shapeCasts_S1x8x1024_S8x1024 rfl rfl (by decide)
  have h6' : Holds (fun c => near v0 v2 (fun e => v4 (ix3 0 e c))) 512 (val6 (dist v0 v2 v4)) (idx6 (dist v0 v2 v4)) := h6
  unfold row
  rw [last_apply]
  exact First.last _ _ fun r => h6' r c

end Cert.KernelIdeal.Row

end
-- ==== Proof.Block.lean ====
/- One grid point of the kernel: its block of eight batches is eight copies of the same batch. -/
module

public import proofs.«01_k».proof.Proof.Row

@[expose] public section

noncomputable section

namespace Cert.KernelIdeal.Row

open Cert.KernelIdeal Cert.KernelIdeal.Gen Cert.Nearest Idealize.ShloMosaic Idealize.ShloMosaic.TcCoe

variable (x0 : Vec Ideal S512x32 .f32) (x1 : Vec Ideal S8x32x1024 .f32) (x2 x3 : Vec Ideal S512x1 .f32)

/-- The block's result as one function of its index: batch `y 0`'s index for token `y 1`. -/
def block (y : S8x1024.Idx) : BitVec 32 := row x0 x2 (fun z => x1 (ix3 (y 0) (z 1) (z 2))) (ix2 0 (y 1))

/-- The batch read from the block at offset `k` agrees with the block's function on the batch's row. -/
theorem piece (k : ℕ) (inb inb') (x : S1x1024.Idx) :
    row (View.ld x0 r0_0) (View.ld x2 r0_1) (View.ld x1 (Rect.unit (s := S8x32x1024) ![k, 0, 0] S1x32x1024.size inb)) x
      = block x0 x1 x2 ((Rect.unit (s := S8x1024) ![k, 0] S1x1024.size inb').emb x) := by
  have e0 : View.ld x0 r0_0 = x0 := View.ld_unit_zero (by funext a; fin_cases a <;> rfl) _ x0
  have e2 : View.ld x2 r0_1 = x2 := View.ld_unit_zero (by funext a; fin_cases a <;> rfl) _ x2
  rw [e0, e2]
  unfold block
  have hx : x = ix2 0 (x 1) := by
    refine (eq_ix2 x).trans (congrArg (fun a => ix2 a (x 1)) ?_)
    exact Subsingleton.elim (α := Fin 1) _ _
  have hr : View.ld x1 (Rect.unit (s := S8x32x1024) ![k, 0, 0] S1x32x1024.size inb)
      = fun z => x1 (ix3 (((Rect.unit (s := S8x1024) ![k, 0] S1x1024.size inb').emb x) 0) (z 1) (z 2)) := by
    funext z
    refine congrArg x1 (funext fun a => Fin.ext ?_)
    have hz : (z 0 : ℕ) = 0 := Nat.lt_one_iff.mp (z 0).isLt
    have hx0 : (x 0 : ℕ) = 0 := Nat.lt_one_iff.mp (x 0).isLt
    fin_cases a
    · show k + 1 * (z 0 : ℕ) = k + 1 * (x 0 : ℕ)
      omega
    · show 0 + 1 * (z 1 : ℕ) = (z 1 : ℕ)
      omega
    · show 0 + 1 * (z 2 : ℕ) = (z 2 : ℕ)
      omega
  have hc : ((Rect.unit (s := S8x1024) ![k, 0] S1x1024.size inb').emb x) 1 = x 1 := Fin.ext (by
    show 0 + 1 * (x 1 : ℕ) = x 1
    omega)
  rw [hr, hc]
  exact congrArg (row x0 x2 _) hx

/-- The pieces the block is put together from. -/
theorem out_pieces : out0_4 x0 x1 x2 x3
    = View.canon [⟨r0_17, row (View.ld x0 r0_0) (View.ld x2 r0_1) (View.ld x1 r0_16)⟩,
        ⟨r0_15, row (View.ld x0 r0_0) (View.ld x2 r0_1) (View.ld x1 r0_14)⟩,
        ⟨r0_13, row (View.ld x0 r0_0) (View.ld x2 r0_1) (View.ld x1 r0_12)⟩,
        ⟨r0_11, row (View.ld x0 r0_0) (View.ld x2 r0_1) (View.ld x1 r0_10)⟩,
        ⟨r0_9, row (View.ld x0 r0_0) (View.ld x2 r0_1) (View.ld x1 r0_8)⟩,
        ⟨r0_7, row (View.ld x0 r0_0) (View.ld x2 r0_1) (View.ld x1 r0_6)⟩,
        ⟨r0_5, row (View.ld x0 r0_0) (View.ld x2 r0_1) (View.ld x1 r0_4)⟩,
        ⟨r0_3, row (View.ld x0 r0_0) (View.ld x2 r0_1) (View.ld x1 r0_2)⟩] := by
  unfold_out out0_4
  rfl

/-- The block's result, index by index. -/
theorem out_apply (y : S8x1024.Idx) : out0_4 x0 x1 x2 x3 y = block x0 x1 x2 y := by
  rw [out_pieces]
  refine View.canon_apply_of_pieces (block x0 x1 x2) _ (fun p hp x => ?_) y (cover0_4 (F := Ideal) _ _ _ _ _ _ _ _ y)
  simp only [List.mem_cons, List.not_mem_nil, or_false] at hp
  rcases hp with rfl | rfl | rfl | rfl | rfl | rfl | rfl | rfl
  · dsimp only
    exact piece x0 x1 x2 7 inb_S8x32x1024_S1x32x1024_7_0_0 inb_S8x1024_S1x1024_7_0 x
  · dsimp only
    exact piece x0 x1 x2 6 inb_S8x32x1024_S1x32x1024_6_0_0 inb_S8x1024_S1x1024_6_0 x
  · dsimp only
    exact piece x0 x1 x2 5 inb_S8x32x1024_S1x32x1024_5_0_0 inb_S8x1024_S1x1024_5_0 x
  · dsimp only
    exact piece x0 x1 x2 4 inb_S8x32x1024_S1x32x1024_4_0_0 inb_S8x1024_S1x1024_4_0 x
  · dsimp only
    exact piece x0 x1 x2 3 inb_S8x32x1024_S1x32x1024_3_0_0 inb_S8x1024_S1x1024_3_0 x
  · dsimp only
    exact piece x0 x1 x2 2 inb_S8x32x1024_S1x32x1024_2_0_0 inb_S8x1024_S1x1024_2_0 x
  · dsimp only
    exact piece x0 x1 x2 1 inb_S8x32x1024_S1x32x1024_1_0_0 inb_S8x1024_S1x1024_1_0 x
  · dsimp only
    exact piece x0 x1 x2 0 inb_S8x32x1024_S1x32x1024_0_0_0 inb_S8x1024_S1x1024_0_0 x

end Cert.KernelIdeal.Row

end
-- ==== Proof.Result.lean ====
/- The kernel's result array after the run: at each token, the first minimum of the token's distances as the kernel works them out. -/
module

public import proofs.«01_k».proof.Proof.Block
public import proofs.«01_k».proof.Proof.Gen.KernelIdeal.Value

@[expose] public section

noncomputable section

namespace Cert.KernelIdeal.Row

open Cert.KernelIdeal Cert.KernelIdeal.Gen Cert.Nearest Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result as one function of the arrays the launch reads: batch `y 0`'s index for token `y 1`. -/
def result (c : Dev nD) : Buf (Elt Ideal) ((c : Thread nD τ).loc main_v8) := fun y : S64x1024.Idx =>
  row (V m c main_v4) (V m c main_v2) (fun z => V m c main_v7 (ix3 (y 0) (z 1) (z 2))) (ix2 0 (y 1))

/-- The windows' block numbers: the codewords' windows stay at the first block, the tokens' and the result's step with
    the grid point along the batches. -/
theorem idx_facts : ∀ t : Fin cfg0.N, win0_0.index t 0 = 0 ∧ win0_0.index t 1 = 0 ∧ win0_1.index t 0 = t.val ∧ win0_1.index t 1 = 0
    ∧ win0_1.index t 2 = 0 ∧ win0_2.index t 0 = 0 ∧ win0_2.index t 1 = 0 ∧ win0_4.index t 0 = t.val ∧ win0_4.index t 1 = 0 :=
  (by decide +kernel : ∀ t : Fin grid0.N, win0_0.index t 0 = 0 ∧ win0_0.index t 1 = 0 ∧ win0_1.index t 0 = t.val ∧ win0_1.index t 1 = 0
    ∧ win0_1.index t 2 = 0 ∧ win0_2.index t 0 = 0 ∧ win0_2.index t 1 = 0 ∧ win0_4.index t 0 = t.val ∧ win0_4.index t 1 = 0)

/-- Every grid point reads the whole array of doubled codewords. -/
theorem iblk0 (c : Dev nD) (t : Fin cfg0.N) : iblk m c 0 t = V m c main_v4 := by
  obtain ⟨e0, e1, -⟩ := idx_facts t
  funext z
  show V m c main_v4 ((win0_0.blk t).view.emb z) = V m c main_v4 z
  refine congrArg (V m c main_v4) (funext fun a => Fin.ext ?_)
  match a with
  | ⟨0, _⟩ =>
    show win0_0.index t 0 * 512 + 1 * (z 0 : ℕ) = (z 0 : ℕ)
    rw [e0]; omega
  | ⟨1, _⟩ =>
    show win0_0.index t 1 * 32 + 1 * (z 1 : ℕ) = (z 1 : ℕ)
    rw [e1]; omega

/-- Every grid point reads the whole array of squared norms of the codewords. -/
theorem iblk2 (c : Dev nD) (t : Fin cfg0.N) : iblk m c 2 t = V m c main_v2 := by
  obtain ⟨-, -, -, -, -, e0, e1, -⟩ := idx_facts t
  funext z
  show V m c main_v2 ((win0_2.blk t).view.emb z) = V m c main_v2 z
  refine congrArg (V m c main_v2) (funext fun a => Fin.ext ?_)
  match a with
  | ⟨0, _⟩ =>
    show win0_2.index t 0 * 512 + 1 * (z 0 : ℕ) = (z 0 : ℕ)
    rw [e0]; omega
  | ⟨1, _⟩ =>
    show win0_2.index t 1 * 1 + 1 * (z 1 : ℕ) = (z 1 : ℕ)
    rw [e1]; omega

/-- What a grid point writes back is its block of the result. -/
theorem flushed_eq (c : Dev nD) (t : Fin cfg0.N) :
    (dats m 0 c).flushed 4 t = ((cfg0.win 4).blk t).view.read (Elt Ideal) (result m c) := by
  obtain ⟨-, -, e0, e1, e2, -, -, o0, o1⟩ := idx_facts t
  refine (Value.flushed4 m c t).trans ?_
  have hout : out0_4 (iblk m c 0 t) (iblk m c 1 t) (iblk m c 2 t) (iblk m c 3 t)
      = block (V m c main_v4) (iblk m c 1 t) (V m c main_v2) := by
    rw [iblk0, iblk2]
    exact funext (out_apply _ _ _ _)
  rw [hout]
  have key : ∀ (f : S8x1024.Idx → BitVec 32) (g : S64x1024.Idx → BitVec 32), (∀ y : S8x1024.Idx, f y = g ((win0_4.blk t).view.emb y)) →
      (cfg0.win 4).cut (grid0.coords t) f = ((cfg0.win 4).blk t).view.read (Elt Ideal) g := fun f g h => funext h
  refine key _ _ fun y => ?_
  have h1 : ((win0_4.blk t).view.emb y) 1 = y 1 := Fin.ext (by
    show win0_4.index t 1 * 1024 + 1 * (y 1 : ℕ) = (y 1 : ℕ)
    rw [o1]; omega)
  have hx : ∀ z : S1x32x1024.Idx, iblk m c 1 t (ix3 (y 0) (z 1) (z 2)) = V m c main_v7 (ix3 (((win0_4.blk t).view.emb y) 0) (z 1) (z 2)) := by
    intro z
    show V m c main_v7 ((win0_1.blk t).view.emb (ix3 (y 0) (z 1) (z 2))) = _
    refine congrArg (V m c main_v7) (funext fun a => Fin.ext ?_)
    match a with
    | ⟨0, _⟩ =>
      show win0_1.index t 0 * 8 + 1 * (y 0 : ℕ) = win0_4.index t 0 * 8 + 1 * (y 0 : ℕ)
      rw [e0, o0]
    | ⟨1, _⟩ =>
      show win0_1.index t 1 * 32 + 1 * (z 1 : ℕ) = (z 1 : ℕ)
      rw [e1]; omega
    | ⟨2, _⟩ =>
      show win0_1.index t 2 * 1024 + 1 * (z 2 : ℕ) = (z 2 : ℕ)
      rw [e2]; omega
  unfold block result
  rw [h1]
  exact congrArg (fun f => row (V m c main_v4) (V m c main_v2) f (ix2 0 (y 1))) (funext hx)

/-- An index of the result is in a grid point's block when its batch is one of the point's eight. -/
theorem mem_blk (t : Fin cfg0.N) (i : S64x1024.Idx) :
    i ∈ ((cfg0.win 4).blk t).view.set ↔ t.val * 8 ≤ (i 0 : ℕ) ∧ (i 0 : ℕ) < t.val * 8 + 8 := by
  show i ∈ ((View.whole main_v8).slice (win0_4.rect t)).set ↔ _
  rw [View.set_slice_whole, Rect.mem_set_unit]
  obtain ⟨-, -, -, -, -, -, -, o0, o1⟩ := idx_facts t
  have h1 : (i 1 : ℕ) < 1024 := (i 1).isLt
  refine ⟨fun h => ?_, fun h a => ?_⟩
  · have : win0_4.index t 0 * 8 ≤ (i 0 : ℕ) ∧ (i 0 : ℕ) < win0_4.index t 0 * 8 + 8 := h 0
    rw [o0] at this
    exact this
  · match a with
    | ⟨0, _⟩ =>
      show win0_4.index t 0 * 8 ≤ (i 0 : ℕ) ∧ (i 0 : ℕ) < win0_4.index t 0 * 8 + 8
      rw [o0]
      exact h
    | ⟨1, _⟩ =>
      show win0_4.index t 1 * 1024 ≤ (i 1 : ℕ) ∧ (i 1 : ℕ) < win0_4.index t 1 * 1024 + 1024
      rw [o1]
      omega

/-- Every index of the result is in some grid point's block. -/
theorem cover (i : S64x1024.Idx) : ∃ t : Fin cfg0.N, (cfg0.win 4).flush t = true ∧ i ∈ ((cfg0.win 4).blk t).view.set := by
  have h0 : (i 0 : ℕ) < 64 := (i 0).isLt
  have hN : cfg0.N = 8 := N_0
  refine ⟨⟨(i 0 : ℕ) / 8, by omega⟩, flush0_4 _, ?_⟩
  rw [mem_blk]
  dsimp only
  omega

/-- The result array after the run. -/
theorem final (c : Dev nD) : (dats m 0 c).arrAt 4 cfg0.N = result m c :=
  (dats m 0 c).arrAt_eq_of_cover 4 (result m c) (fun t _ => flushed_eq m c t) cover

/-! ## The arrays the launch reads -/

/-- The tokens. -/
abbrev toks (c : Dev nD) : FVec Ideal S64x1024x32 .f32 := m ((c : Thread nD τ).loc main_arg0)

/-- The codewords. -/
abbrev codes (c : Dev nD) : FVec Ideal S512x32 .f32 := m ((c : Thread nD τ).loc main_arg1)

/-- The doubled codewords. -/
def twice (v : FVec Ideal S512x32 .f32) : FVec Ideal S512x32 .f32 :=
  mulf (broadcastInDim S512x32 ![] bcast_S_S512x32 (constant (F := Ideal) S_ .f32 0x40000000#32)) v

/-- The squared norms of the codewords, a column. -/
def norms (v : FVec Ideal S512x32 .f32) : FVec Ideal S512x1 .f32 :=
  broadcastInDim S512x1 ![0] bcast_S512_S512x1_0
    (Host.reduceAdd (mulf v v) (constant (F := Ideal) S_ .f32 0x00000000#32) reducesTo_S512x32_S512_d1 h_S_)

/-- The tokens with coordinates before tokens. -/
def turned (x : FVec Ideal S64x1024x32 .f32) : FVec Ideal S64x32x1024 .f32 :=
  transpose S64x32x1024 [0, 2, 1] x transposes_S64x1024x32_S64x32x1024_0_2_1

/-- The launch reads the doubled codewords. -/
theorem V_main_v4 (c : Dev nD) : V m c main_v4 = twice (codes m c) := by
  dsimp only [V, hostOps0]
  after_results
  rfl

/-- The launch reads the squared norms. -/
theorem V_main_v2 (c : Dev nD) : V m c main_v2 = norms (codes m c) := by
  dsimp only [V, hostOps0]
  after_results
  rfl

/-- The launch reads the turned tokens. -/
theorem V_main_v7 (c : Dev nD) : V m c main_v7 = turned (toks m c) := by
  dsimp only [V, hostOps0]
  after_results
  rfl

/-- A doubled codeword's coordinate. -/
theorem twice_apply (v : FVec Ideal S512x32 .f32) (i : Fin 512) (e : Fin 32) : twice v (ix2 i e) = 2 * v (ix2 i e) := by
  unfold twice
  simp only [pointwise, ofBits_two]

/-- A codeword's squared norm. -/
theorem norms_apply (v : FVec Ideal S512x32 .f32) (i : Fin 512) :
    norms v (ix2 i 0) = ∑ e : Fin 32, v (ix2 i e) * v (ix2 i e) := by
  unfold norms
  simp only [pointwise, zero_add]
  rfl

/-- A turned token's coordinate. -/
theorem turned_apply (x : FVec Ideal S64x1024x32 .f32) (b : Fin 64) (e : Fin 32) (t : Fin 1024) :
    turned x (ix3 b e t) = x (ix3 b t e) := by
  unfold turned
  simp only [pointwise]

/-- The kernel's index at a token is the first minimum of the token's distances. -/
theorem result_first (c : Dev nD) (b : Fin 64) (t : Fin 1024) :
    First (near (twice (codes m c)) (norms (codes m c)) (fun e => toks m c (ix3 b t e))) {i | i < 512}
      ((result m c : IVec S64x1024 32) (ix2 b t)).toNat := by
  have h := row_first (twice (codes m c)) (norms (codes m c)) (fun z => turned (toks m c) (ix3 b (z 1) (z 2))) t
  have e : (result m c : IVec S64x1024 32) (ix2 b t)
      = row (twice (codes m c)) (norms (codes m c)) (fun z => turned (toks m c) (ix3 b (z 1) (z 2))) (ix2 0 t) := by
    unfold result
    rw [V_main_v4, V_main_v2, V_main_v7]
    rfl
  rw [e]
  have ht : (fun e : Fin 32 => turned (toks m c) (ix3 b e t)) = fun e => toks m c (ix3 b t e) :=
    funext fun e => turned_apply _ b e t
  rw [← ht]
  exact h

end Cert.KernelIdeal.Row

end
-- ==== Proof.Reference.lean ====
/-
  The reference's run: its operations in order, the call of the arg-min written out at its place, and what they leave
  in the result's array as one function of the two arguments.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The arg-min of each row: the index half of the pair the reduction keeps. -/
def pick (d : (⟨S65536x512, .f32⟩ : BufTy).Contents (Elt F)) (i : (⟨S65536x512, .i32⟩ : BufTy).Contents (Elt F))
    (d0 : (⟨S_, .f32⟩ : BufTy).Contents (Elt F)) (i0 : (⟨S_, .i32⟩ : BufTy).Contents (Elt F)) :
    (⟨S65536, .i32⟩ : BufTy).Contents (Elt F) := fun j =>
  (Host.argReduce reducer_argmin_f32_i32 d i d0 i0 reducesTo_S65536x512_S65536_d1 h_S_ j).2

/-- The reference's operations, in order. -/
abbrev ops : List (HloOp τ sig (Elt F)) :=
  [ reshape main_arg0 main_v0 (rfl : (.f32 : EltTy) = .f32) shapeCasts_S64x1024x32_S65536x32,
    binary main_v0 main_v0 main_v1 mulf,
    nullary main_cst (constant S_ .f32 0x00000000#32),
    binary main_v1 main_cst main_v2 (fun x v => Host.reduceAdd x v reducesTo_S65536x32_S65536_d1 h_S_),
    unary main_v2 main_v3 (broadcastInDim S65536x1 ![0] bcast_S65536_S65536x1_0),
    binary main_arg1 main_arg1 main_v4 mulf,
    nullary main_cst_0 (constant S_ .f32 0x00000000#32),
    binary main_v4 main_cst_0 main_v5 (fun x v => Host.reduceAdd x v reducesTo_S512x32_S512_d1 h_S_),
    unary main_v5 main_v6 (broadcastInDim S1x512 ![1] bcast_S512_S1x512_1),
    unary main_arg1 main_v7 (transpose S32x512 [1, 0] · transposes_S512x32_S32x512_1_0),
    binary main_v0 main_v7 main_v8 (fun l r => Host.dotGeneral dot_S65536x32_S32x512_S65536x512_1_0_0_1_n_n none l r),
    nullary main_cst_1 (constant S_ .f32 0x40000000#32),
    unary main_cst_1 main_v9 (broadcastInDim S65536x512 ![] bcast_S_S65536x512),
    binary main_v9 main_v8 main_v10 mulf,
    unary main_v3 main_v11 (broadcastInDim S65536x512 ![0, 1] bcast_S65536x1_S65536x512_0_1),
    binary main_v11 main_v10 main_v12 subf,
    unary main_v6 main_v13 (broadcastInDim S65536x512 ![0, 1] bcast_S1x512_S65536x512_0_1),
    binary main_v12 main_v13 main_v14 addf,
    nullary main_cst_2 (constant S_ .f32 0x00000000#32),
    unary main_cst_2 main_v15 (broadcastInDim S65536x512 ![] bcast_S_S65536x512),
    binary main_v14 main_v15 main_v16 maximumf,
    unary main_v16 main_v17 Host.sqrt,
    TRef.nullary (.of main_call0_v0) (iotaInDim S65536x512 32 1),
    TRef.nullary (.of main_call0_cst) (constant S_ .f32 0x7F800000#32),
    TRef.nullary (.of main_call0_c) (constantI S_ 32 0#32),
    TRef.quaternary (.of main_v17) (.of main_call0_v0) (.of main_call0_cst) (.of main_call0_c) (.of main_call0_v1_0)
      (fun x y u v j => (Host.argReduce reducer_argmin_f32_i32 x y u v reducesTo_S65536x512_S65536_d1 h_S_ j).1),
    TRef.quaternary (.of main_v17) (.of main_call0_v0) (.of main_call0_cst) (.of main_call0_c) (.of main_v18) pick,
    reshape main_v18 main_v19 (rfl : (.i32 : EltTy) = .i32) shapeCasts_S65536_S64x1024 ]

/-- The reference is that straight line. -/
theorem main_eq (c : Dev nD) : main (F := F) c = seq ops := rfl

/-- The tokens as 65536 rows. -/
def rows (x : FVec F S64x1024x32 .f32) : FVec F S65536x32 .f32 := shapeCast S65536x32 x shapeCasts_S64x1024x32_S65536x32

/-- The reference's squared distances before they are cut off at zero: a token a row, a codeword a column. -/
def dist2 (x : FVec F S64x1024x32 .f32) (v : FVec F S512x32 .f32) : FVec F S65536x512 .f32 :=
  addf
    (subf
      (broadcastInDim S65536x512 ![0, 1] bcast_S65536x1_S65536x512_0_1
        (broadcastInDim S65536x1 ![0] bcast_S65536_S65536x1_0
          (Host.reduceAdd (mulf (rows x) (rows x)) (constant S_ .f32 0x00000000#32) reducesTo_S65536x32_S65536_d1 h_S_)))
      (mulf (broadcastInDim S65536x512 ![] bcast_S_S65536x512 (constant S_ .f32 0x40000000#32))
        (Host.dotGeneral dot_S65536x32_S32x512_S65536x512_1_0_0_1_n_n none (rows x)
          (transpose S32x512 [1, 0] v transposes_S512x32_S32x512_1_0))))
    (broadcastInDim S65536x512 ![0, 1] bcast_S1x512_S65536x512_0_1
      (broadcastInDim S1x512 ![1] bcast_S512_S1x512_1
        (Host.reduceAdd (mulf v v) (constant S_ .f32 0x00000000#32) reducesTo_S512x32_S512_d1 h_S_)))

/-- The reference's distances. -/
def dist (x : FVec F S64x1024x32 .f32) (v : FVec F S512x32 .f32) : FVec F S65536x512 .f32 :=
  Host.sqrt (maximumf (dist2 x v) (broadcastInDim S65536x512 ![] bcast_S_S65536x512 (constant S_ .f32 0x00000000#32)))

/-- The reference's indices, a token a row. -/
def nearest (x : FVec F S64x1024x32 .f32) (v : FVec F S512x32 .f32) : IVec S65536 32 :=
  pick (F := F) (dist x v) (iotaInDim S65536x512 32 1) (constant S_ .f32 0x7F800000#32) (constantI S_ 32 0#32)

/-- The reference's result. -/
def out (x : FVec F S64x1024x32 .f32) (v : FVec F S512x32 .f32) : IVec S64x1024 32 :=
  shapeCast S64x1024 (nearest x v) shapeCasts_S65536_S64x1024

/-- The arg-min's operand is read as it stands. -/
theorem ofBuf_main_v17 (z : FVec F S65536x512 .f32) (h h' h'') :
    (TRef.of (sig := sig) main_v17 h h' h'' : TRef sig ⟨S65536x512, .f32⟩).ofBuf (Val := Elt F) z = z := rfl

/-- The arg-min's result is stored as it stands. -/
theorem toBuf_main_v18 (z : IVec S65536 32) (h h' h'') :
    (TRef.of (sig := sig) main_v18 h h' h'' : TRef sig ⟨S65536, .i32⟩).toBuf (Val := Elt F) z = z := rfl

/-- The operations up to the distances leave those. -/
theorem dist_eq (V : Valuation τ sig (Elt F)) :
    after (ops.take 22) V (main_v17 : DevRef τ sig) = dist (V (main_arg0 : DevRef τ sig)) (V (main_arg1 : DevRef τ sig)) := by
  simp only [List.take]
  after_results
  rfl

/-- The operations of the arg-min leave the picked indices of the distances they find. -/
theorem nearest_eq (V : Valuation τ sig (Elt F)) :
    after ((ops.drop 22).take 5) V (main_v18 : DevRef τ sig)
      = pick (V (main_v17 : DevRef τ sig)) (iotaInDim S65536x512 32 1) (constant S_ .f32 0x7F800000#32) (constantI S_ 32 0#32) := by
  simp only [List.drop, List.take]
  after_results
  simp only [TRef.ofBuf_toBuf]
  rw [ofBuf_main_v17, toBuf_main_v18]

/-- The last operation lays the indices out in the result's shape. -/
theorem reshape_eq (V : Valuation τ sig (Elt F)) :
    after (ops.drop 27) V (main_v19 : DevRef τ sig)
      = shapeCast S64x1024 (V (main_v18 : DevRef τ sig)) shapeCasts_S65536_S64x1024 := by
  simp only [List.drop]
  after_results
  rfl

/-- The operations after two lines are those after the first, then the second. -/
theorem after_append (l l' : List (HloOp τ sig (Elt F))) (V : Valuation τ sig (Elt F)) :
    after (l ++ l') V = after l' (after l V) := by
  induction l generalizing V with
  | nil => rfl
  | cons op l ih => exact ih _

/-- The operations are the distances', the arg-min's and the last one. -/
theorem ops_eq : (ops : List (HloOp τ sig (Elt F))) = ops.take 22 ++ ((ops.drop 22).take 5 ++ ops.drop 27) := rfl

/-- What the operations leave in the result's array. -/
theorem out_eq (V : Valuation τ sig (Elt F)) :
    after ops V (main_v19 : DevRef τ sig) = out (V (main_arg0 : DevRef τ sig)) (V (main_arg1 : DevRef τ sig)) := by
  rw [ops_eq, after_append, after_append, reshape_eq, nearest_eq, dist_eq]
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- Every operation touches only the core's own references. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., binary_bufs_sub .., unary_bufs_sub .., unary_bufs_sub ..,
    binary_bufs_sub .., nullary_bufs_sub .., unary_bufs_sub .., binary_bufs_sub .., unary_bufs_sub ..,
    binary_bufs_sub .., unary_bufs_sub .., binary_bufs_sub .., nullary_bufs_sub .., unary_bufs_sub ..,
    binary_bufs_sub .., unary_bufs_sub .., nullary_bufs_sub .., nullary_bufs_sub .., nullary_bufs_sub ..,
    quaternary_bufs_sub .., quaternary_bufs_sub .., reshape_bufs_sub ..⟩

/-- From any memory with zero counters the reference runs, its result's array ends at `out` of the arguments, and the
    arguments end as they began. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v19)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v19).trans (out_eq _), (h c main_arg0).trans (arg0_eq _), (h c main_arg1).trans (arg1_eq _)⟩)
    (run_seq scopedRefs_eq scopedSems_eq defs main (fun _ => ops) main_eq (fun _ => ops_sub) m ρ)

/-- From any memory with zero counters the reference runs, its arguments end as they began and every counter ends at
    zero: the program has no semaphore. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.ReferenceIdeal.Run

end
-- ==== Proof.RefValue.lean ====
/-
  The reference read at a token: its index is the first minimum of the distances to the 512 codewords, and each
  distance is the square root of the cut-off expansion of the squared distance.
-/
module

public import proofs.«01_k».proof.Proof.Reference
public import proofs.«01_k».proof.Proof.Tournament
public import Idealize.ShloMosaic.Lib.Pointwise

@[expose] public section

noncomputable section

namespace Cert.ReferenceIdeal.Run

open Cert.ReferenceIdeal Cert.ReferenceIdeal.Gen Cert.Nearest
open Idealize.ShloMosaic

/-! ## The arg-min -/

/-- A pair comes no later than another: its value is less, or they are equal and its word is no greater. -/
def Before (a b : EReal × BitVec 32) : Prop := a.1 < b.1 ∨ (a.1 = b.1 ∧ a.2.toInt ≤ b.2.toInt)

/-- The order of pairs is reflexive. -/
theorem Before.refl (a : EReal × BitVec 32) : Before a a := Or.inr ⟨rfl, le_refl _⟩

/-- The order of pairs is transitive. -/
theorem Before.trans {a b c : EReal × BitVec 32} (h : Before a b) (h' : Before b c) : Before a c := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- The reducer answers one of its two pairs, and that pair comes no later than either. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, w⟩ := a
  obtain ⟨y, u⟩ := b
  have key : reducer_argmin_f32_i32 (F := Ideal) (x, w) (y, u)
      = if x < y ∨ (x = y ∧ w.toInt < u.toInt) then (x, w) else (y, u) := by
    unfold reducer_argmin_f32_i32
    by_cases h : x < y
    · have : ∀ b : BitVec 1, (1#1 ||| b) = 1#1 := by decide
      simp [Ideal.cmpf_def, Ideal.cmp, h, Scalar.select, IntOp.ori, IntOp.andi, this]
    · by_cases e : x = y
      · subst e
        by_cases hw : w.toInt < u.toInt
        · have := BitVec.slt_iff_toInt_lt.mpr hw
          simp [Ideal.cmpf_def, Ideal.cmp, Scalar.select, IntOp.ori, IntOp.andi, IntOp.cmpi, hw, this]
        · have : w.slt u = false := by
            rw [Bool.eq_false_iff]; exact fun hh => hw (BitVec.slt_iff_toInt_lt.mp hh)
          simp [Ideal.cmpf_def, Ideal.cmp, Scalar.select, IntOp.ori, IntOp.andi, IntOp.cmpi, hw, this]
      · simp [Ideal.cmpf_def, Ideal.cmp, h, e, Scalar.select, IntOp.ori, IntOp.andi]
  rw [key]
  split_ifs with h
  · exact ⟨Or.inl rfl, Before.refl _, h.imp id (fun h => ⟨h.1, h.2.le⟩)⟩
  · refine ⟨Or.inr rfl, ?_, Before.refl _⟩
    rw [not_or] at h
    rcases (not_lt.mp h.1).lt_or_eq with h' | e
    · exact Or.inl h'
    · exact Or.inr ⟨e, not_lt.mp fun hh => h.2 ⟨e.symm, hh⟩⟩

/-- Folded along a list, the reducer answers the start or a member, and comes no later than any of them. -/
theorem foldl_reducer_spec (l : List (EReal × BitVec 32)) (p : EReal × BitVec 32) :
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l generalizing p with
  | nil => exact ⟨Or.inl rfl, Before.refl _, fun q hq => absurd hq List.not_mem_nil⟩
  | cons a l ih =>
    rw [List.foldl_cons]
    obtain ⟨h1, h2, h3⟩ := reducer_spec p a
    obtain ⟨i1, i2, i3⟩ := ih (reducer_argmin_f32_i32 (F := Ideal) p a)
    refine ⟨?_, i2.trans h2, fun q hq => ?_⟩
    · rcases i1 with e | e
      · rw [e]
        exact h1.imp id (fun e => by rw [e]; exact List.mem_cons_self)
      · exact Or.inr (List.mem_cons_of_mem _ e)
    · rcases List.mem_cons.mp hq with rfl | hq
      · exact i2.trans h3
      · exact i3 q hq

/-- A row of an array of distances as a family over all indices, zero past the last. -/
def row (d : FVec Ideal S65536x512 .f32) (j : Fin 65536) (i : ℕ) : EReal := if h : i < 512 then d (ix2 j ⟨i, h⟩) else 0

/-- The row at an index below 512. -/
theorem row_apply (d : FVec Ideal S65536x512 .f32) (j : Fin 65536) (i : Fin 512) : row d j i.val = d (ix2 j i) :=
  dif_pos i.isLt

/-- The pairs an arg-min along the columns folds over: the entries of the row, each with its column's number. -/
theorem mem_fiber {n m : ℕ} (d : FVec Ideal ⟨2, ![n, m]⟩ .f32) (h : (⟨2, ![n, m]⟩ : Shape).ReducesTo [1] ⟨1, ![n]⟩)
    (j : Fin n) (q : EReal × BitVec 32) :
    q ∈ Host.argReduceFiber d (iotaInDim ⟨2, ![n, m]⟩ 32 1) h (ix1 j)
      ↔ ∃ i : Fin m, (d (ix2 j i), BitVec.ofNat 32 i.val) = q := by
  unfold Host.argReduceFiber
  rw [List.mem_map]
  constructor
  · rintro ⟨k, hk, rfl⟩
    obtain ⟨i, hi⟩ := (Shape.ReducesTo.fiber_r2_a1 h (ix1 j) _).mp (of_decide_eq_true (List.mem_filter.mp hk).2)
    exact ⟨i, by rw [← hi]; rfl⟩
  · rintro ⟨i, rfl⟩
    refine ⟨(⟨2, ![n, m]⟩ : Shape).rowMajor (ix2 j i), List.mem_filter.mpr ⟨List.mem_finRange _, decide_eq_true ?_⟩, ?_⟩
    · rw [Equiv.symm_apply_apply]
      exact (Shape.ReducesTo.fiber_r2_a1 h (ix1 j) _).mpr ⟨i, rfl⟩
    · rw [Equiv.symm_apply_apply]; rfl

/-- An arg-min along the columns that starts from infinity and index zero picks the first minimum of its row. -/
theorem argReduce_first {n m : ℕ} (d : FVec Ideal ⟨2, ![n, m]⟩ .f32) (D : ℕ → EReal) (d0 : FVec Ideal S_ .f32) (i0 : IVec S_ 32)
    (h : (⟨2, ![n, m]⟩ : Shape).ReducesTo [1] ⟨1, ![n]⟩) (h0 : 0 < S_.numel) (j : Fin n)
    (hD : ∀ i : Fin m, d (ix2 j i) = D i.val) (hd0 : d0 (Shape.Idx.first h0) = ⊤) (hi0 : i0 (Shape.Idx.first h0) = 0#32)
    (hm : 0 < m) (hm' : m ≤ 1024) :
    First D {i | i < m}
      (Host.argReduce (reducer_argmin_f32_i32 (F := Ideal)) d (iotaInDim ⟨2, ![n, m]⟩ 32 1) d0 i0 h h0 (ix1 j)).2.toNat := by
  rw [Ideal.argReduce_eq_reduce2, Host.reduce2_eq_foldl_fiber, hd0, hi0]
  have hmem := mem_fiber d h j
  generalize Host.argReduceFiber d (iotaInDim ⟨2, ![n, m]⟩ 32 1) h (ix1 j) = l at hmem ⊢
  obtain ⟨s1, _, s3⟩ := foldl_reducer_spec l (⊤, 0#32)
  generalize l.foldl (reducer_argmin_f32_i32 (F := Ideal)) ((⊤ : EReal), 0#32) = p at s1 s3 ⊢
  have hb : ∀ i : Fin m, Before p (D i.val, BitVec.ofNat 32 i.val) := fun i => s3 _ ((hmem _).mpr ⟨i, by rw [hD]⟩)
  have hword : ∀ i : ℕ, i < m → (BitVec.ofNat 32 i).toNat = i := fun i hi => by
    rw [BitVec.toNat_ofNat]; omega
  obtain ⟨k, hk, hk1, hk2⟩ : ∃ k : ℕ, k < m ∧ p.1 = D k ∧ p.2 = BitVec.ofNat 32 k := by
    rcases s1 with e | e
    · have h0 := hb ⟨0, hm⟩
      rw [e] at h0
      refine ⟨0, hm, ?_, by rw [e]⟩
      rw [e]
      rcases h0 with h0 | h0
      · exact absurd h0 not_top_lt
      · exact h0.1
    · obtain ⟨k, hk⟩ := (hmem _).mp e
      exact ⟨k.val, k.isLt, by rw [← hk, hD], by rw [← hk]⟩
  rw [hk2, hword k hk]
  refine ⟨hk, fun i hi => ?_⟩
  have hi : i < m := hi
  have := hb ⟨i, hi⟩
  unfold Before at this
  dsimp only at this
  rw [hk1, hk2, toInt_of_small (by rw [hword k hk]; omega), toInt_of_small (by rw [hword i hi]; omega), hword k hk, hword i hi]
    at this
  exact this.imp id (fun h => ⟨h.1, by exact_mod_cast h.2⟩)

/-- The reference's arg-min as a function of the row. -/
theorem pick_eq (d : FVec Ideal S65536x512 .f32) (i : IVec S65536x512 32) (d0 : FVec Ideal S_ .f32) (i0 : IVec S_ 32) :
    pick (F := Ideal) d i d0 i0 = fun j =>
      (Host.argReduce (reducer_argmin_f32_i32 (F := Ideal)) d i d0 i0 reducesTo_S65536x512_S65536_d1 h_S_ j).2 := rfl

/-- The reference's arg-min picks the first minimum of its row. -/
theorem pick_first (d : FVec Ideal S65536x512 .f32) (j : Fin 65536) :
    First (row d j) {i | i < 512}
      (pick (F := Ideal) d (iotaInDim S65536x512 32 1) (constant (F := Ideal) S_ .f32 0x7F800000#32) (constantI S_ 32 0#32) (ix1 j)).toNat := by
  rw [pick_eq]
  exact argReduce_first d (row d j) (constant (F := Ideal) S_ .f32 0x7F800000#32) (constantI S_ 32 0#32)
    reducesTo_S65536x512_S65536_d1 h_S_ j (fun i => (row_apply d j i).symm) ofBits_inf rfl (by decide) (by decide)

/-! ## The distances -/

/-- The expansion of the squared distance of token row `j` and codeword `i`. -/
theorem dist_apply (x : FVec Ideal S64x1024x32 .f32) (v : FVec Ideal S512x32 .f32) (b : Fin 64) (t : Fin 1024) (i : Fin 512)
    (j : Fin 65536) (hj : j.val = 1024 * b.val + t.val) :
    dist x v (ix2 j i)
      = Ideal.sqrt (max ((∑ e : Fin 32, x (ix3 b t e) * x (ix3 b t e)) - 2 * (∑ e : Fin 32, x (ix3 b t e) * v (ix2 i e))
          + ∑ e : Fin 32, v (ix2 i e) * v (ix2 i e)) 0) := by
  have hrow : ∀ e : Fin 32, rows x (ix2 j e) = x (ix3 b t e) := fun e => by
    refine shapeCast_apply x _ _ _ ?_
    rw [rowMajor_val2 _ 32 rfl, rowMajor_val3 _ (1024 * 32) 32 rfl rfl]
    show b.val * (1024 * 32) + t.val * 32 + e.val = j.val * 32 + e.val
    omega
  unfold dist dist2
  generalize rows x = y at hrow
  simp only [pointwise]
  simp only [zero_add, ofBits_two, ← hrow]
  rfl

/-- The reference's result at a token is the first minimum of its row of distances. -/
theorem out_first (x : FVec Ideal S64x1024x32 .f32) (v : FVec Ideal S512x32 .f32) (b : Fin 64) (t : Fin 1024)
    (j : Fin 65536) (hj : j.val = 1024 * b.val + t.val) :
    First (row (dist x v) j) {i | i < 512} (out x v (ix2 b t)).toNat := by
  have e : out x v (ix2 b t) = nearest x v (ix1 j) := by
    refine shapeCast_apply _ _ _ _ ?_
    rw [rowMajor_val1, rowMajor_val2 _ 1024 rfl]
    show j.val = b.val * 1024 + t.val
    omega
  rw [e]
  exact pick_first (dist x v) j

end Cert.ReferenceIdeal.Run

end
-- ==== Proof.Equal.lean ====
/- Over finite tokens and codewords the kernel and the reference work out the same distances, so they pick the same index. -/
module

public import proofs.«01_k».proof.Proof.Result
public import proofs.«01_k».proof.Proof.RefValue
public import proofs.«01_k».proof.Proof.Gen.Pre_finite
public import Idealize.ShloMosaic.Lib.ReduceAll

@[expose] public section

noncomputable section

namespace Cert.Nearest

open Idealize.ShloMosaic

/-! ## The precondition -/

/-- An extended real of finite magnitude is a real. -/
theorem real_of_lt (a : EReal) (h : FloatOps.cmpf (F := Ideal) (φ := .f32) .olt (max a (-a)) ⊤ = 1#1) : ∃ r : ℝ, a = r := by
  rw [Ideal.cmpf_def] at h
  induction a using EReal.rec with
  | bot => simp [Ideal.cmp] at h
  | top => simp [Ideal.cmp] at h
  | coe r => exact ⟨r, rfl⟩

/-- If every entry's magnitude is below infinity, every entry is a real. -/
theorem reals_of_all {s : Shape} {axes : List (Fin s.rank)} (x y : FVec Ideal s .f32) (hy : ∀ i, y i = ⊤)
    (init : IVec ⟨0, ![]⟩ 1) (h : s.ReducesTo axes ⟨0, ![]⟩) (h0 : 0 < (⟨0, ![]⟩ : Shape).numel) (j : (⟨0, ![]⟩ : Shape).Idx)
    (e : Host.reduce IntOp.andi (cmpf .olt (Host.absf x) y) init h h0 j = 1#1) (i : s.Idx) : ∃ r : ℝ, x i = r := by
  have : Subsingleton (⟨0, ![]⟩ : Shape).Idx := ⟨fun a b => funext fun k => k.elim0⟩
  have hi := Host.reduce_andi_all _ init h h0 j e i
  refine real_of_lt (x i) ?_
  rw [← hy i]
  exact hi

/-- The precondition says that every token coordinate and every codeword coordinate is a real. -/
theorem reals (x : FVec Ideal Cert.Pre_finite.S64x1024x32 .f32) (v : FVec Ideal Cert.Pre_finite.S512x32 .f32)
    (h : Cert.Pre_finite.fn (F := Ideal) x v = fun _ => 1#1) :
    (∀ i, ∃ r : ℝ, x i = r) ∧ ∀ i, ∃ r : ℝ, v i = r := by
  have h0 := congrFun h ix0
  unfold Cert.Pre_finite.fn at h0
  obtain ⟨hx, hv⟩ := IntOp.andi_eq_one.mp h0
  exact ⟨reals_of_all x _ (fun _ => ofBits_inf) _ _ _ _ hx, reals_of_all v _ (fun _ => ofBits_inf) _ _ _ _ hv⟩

/-! ## The distance over the reals -/

/-- A finite sum of reals read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real times its reciprocal square root is its square root, at zero too. -/
theorem mul_rsqrt (r : ℝ) (h : 0 ≤ r) : (r : EReal) * Ideal.rsqrt r = Ideal.sqrt (max (r : EReal) 0) := by
  rw [max_eq_left (by exact_mod_cast h), Ideal.rsqrt_coe, Ideal.sqrt_coe, if_neg (not_lt.mpr h), if_neg (not_lt.mpr h)]
  by_cases e : r = 0
  · rw [if_pos e, e]; simp
  · rw [if_neg e, ← EReal.coe_mul, ← div_eq_mul_inv, Real.div_sqrt]

/-- The two expansions of the squared distance are the sum of the squared differences. -/
theorem dist_eq {ι : Type*} [Fintype ι] (a b : ι → ℝ) :
    ((∑ e, (a e : EReal) * a e) - (∑ e, (2 * (b e : EReal)) * a e) + ∑ e, (b e : EReal) * b e)
        * Ideal.rsqrt ((∑ e, (a e : EReal) * a e) - (∑ e, (2 * (b e : EReal)) * a e) + ∑ e, (b e : EReal) * b e)
      = Ideal.sqrt (max ((∑ e, (a e : EReal) * a e) - 2 * (∑ e, (a e : EReal) * b e) + ∑ e, (b e : EReal) * b e) 0) := by
  have two : (2 : EReal) = ((2 : ℝ) : EReal) := by norm_cast
  have hk : (∑ e, (a e : EReal) * a e) - (∑ e, (2 * (b e : EReal)) * a e) + ∑ e, (b e : EReal) * b e
      = ((∑ e, (a e - b e) ^ 2 : ℝ) : EReal) := by
    rw [two]
    simp only [← EReal.coe_mul, ← coe_sum, ← EReal.coe_sub, ← EReal.coe_add]
    rw [← Finset.sum_sub_distrib, ← Finset.sum_add_distrib]
    exact congrArg _ (Finset.sum_congr rfl fun e _ => by ring)
  have hr : (∑ e, (a e : EReal) * a e) - 2 * (∑ e, (a e : EReal) * b e) + ∑ e, (b e : EReal) * b e
      = ((∑ e, (a e - b e) ^ 2 : ℝ) : EReal) := by
    rw [two]
    simp only [← EReal.coe_mul, ← coe_sum, ← EReal.coe_sub, ← EReal.coe_add]
    rw [Finset.mul_sum, ← Finset.sum_sub_distrib, ← Finset.sum_add_distrib]
    exact congrArg _ (Finset.sum_congr rfl fun e _ => by ring)
  rw [hk, hr]
  exact mul_rsqrt _ (Finset.sum_nonneg fun e _ => sq_nonneg _)

/-! ## The two results -/

open Cert.KernelIdeal.Row in
/-- Over reals the kernel's distance of a token and a codeword is the reference's. -/
theorem near_eq (x : FVec Ideal Cert.Pre_finite.S64x1024x32 .f32) (v : FVec Ideal Cert.Pre_finite.S512x32 .f32)
    (hx : ∀ i, ∃ r : ℝ, x i = r) (hv : ∀ i, ∃ r : ℝ, v i = r) (b : Fin 64) (t : Fin 1024) (j : Fin 65536)
    (hj : j.val = 1024 * b.val + t.val) (i : ℕ) (hi : i < 512) :
    near (twice v) (norms v) (fun e => x (ix3 b t e)) i = Cert.ReferenceIdeal.Run.row (Cert.ReferenceIdeal.Run.dist x v) j i := by
  choose a ha using fun e : Fin 32 => hx (ix3 b t e)
  choose w hw using fun e : Fin 32 => hv (ix2 ⟨i, hi⟩ e)
  rw [show Cert.ReferenceIdeal.Run.row (Cert.ReferenceIdeal.Run.dist x v) j i
      = Cert.ReferenceIdeal.Run.dist x v (ix2 j ⟨i, hi⟩) from Cert.ReferenceIdeal.Run.row_apply _ j ⟨i, hi⟩,
    Cert.ReferenceIdeal.Run.dist_apply x v b t ⟨i, hi⟩ j hj]
  unfold near
  rw [dif_pos hi]
  simp only [twice_apply, norms_apply, ha, hw]
  exact dist_eq a w

open Cert.KernelIdeal Cert.KernelIdeal.Row in
/-- Under the precondition the kernel's result array is the reference's. -/
theorem result_eq (m : (ℓ : Loc nD τ sig) → Buf (Elt Ideal) ℓ) (c : Dev nD)
    (h : Cert.Pre_finite.fn (F := Ideal) (toks m c) (codes m c) = fun _ => 1#1) :
    result m c = Cert.ReferenceIdeal.Run.out (toks m c) (codes m c) := by
  obtain ⟨hx, hv⟩ := reals _ _ h
  refine funext fun (y : S64x1024.Idx) => ?_
  obtain ⟨b, t, rfl⟩ : ∃ (b : Fin 64) (t : Fin 1024), y = ix2 b t := ⟨y 0, y 1, eq_ix2 y⟩
  have hb := b.isLt
  have ht := t.isLt
  obtain ⟨j, hj⟩ : ∃ j : Fin 65536, j.val = 1024 * b.val + t.val := ⟨⟨1024 * b.val + t.val, by omega⟩, rfl⟩
  have hk := (result_first m c b t).congr fun i hi => near_eq (toks m c) (codes m c) hx hv b t j hj i hi
  exact BitVec.eq_of_toNat_eq (hk.unique (Cert.ReferenceIdeal.Run.out_first (toks m c) (codes m c) b t j hj))

end Cert.Nearest

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem

/-- Under the precondition both programs run, their arguments end as they began, and the kernel's result is the reference's. -/
theorem algebraic : Cert.algebraic_KernelIdeal_ReferenceIdeal_pre_finite := fun m g m' g' hpre hagree =>
  ⟨fun c => Cert.KernelIdeal.Row.result m c,
    (θ_run _ _ _).mono (fun _ h c => ⟨(h c).1.trans (Cert.KernelIdeal.Row.final m c), (h c).2⟩) (Cert.KernelIdeal.Value.run_blocks m g),
    (θ_run _ _ _).mono
      (fun _ h c => ⟨(h c).1.trans (by
        rw [(hagree c).1, (hagree c).2]
        exact (Cert.Nearest.result_eq m c (hpre c)).symm), (h c).2⟩)
      (Cert.ReferenceIdeal.Run.run m' g')⟩

/-- All the claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => Cert.ReferenceIdeal.Run.frame m g, fun m g _ => Cert.ReferenceIdeal.Run.frame m g, trivial, algebraic⟩

end Cert.Proof

end
